-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_zero_column [hPre_finite_and_no_zero_column : Cert.Pre_finite_and_no_zero_column.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_zero_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_no_zero_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_no_zero_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_and_no_zero_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite_and_no_zero_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_zero_column [hPre_finite_and_no_zero_column : Cert.Pre_finite_and_no_zero_column.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_zero_column.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_no_zero_column.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_no_zero_column.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_and_no_zero_column.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite_and_no_zero_column.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_no_zero_column [hKernelIdeal : Cert.KernelIdeal.Facts] [hPre_finite_and_no_zero_column : Cert.Pre_finite_and_no_zero_column.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_zero_column m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_no_zero_column [hReferenceIdeal : Cert.ReferenceIdeal.Facts] [hPre_finite_and_no_zero_column : Cert.Pre_finite_and_no_zero_column.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_zero_column m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_no_zero_column [hKernelIdeal : Cert.KernelIdeal.Facts] [hReferenceIdeal : Cert.ReferenceIdeal.Facts] [hPre_finite_and_no_zero_column : Cert.Pre_finite_and_no_zero_column.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_zero_column m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_no_zero_column : Cert.Pre_finite_and_no_zero_column.Facts),
    quiescent_Kernel (hKernel := hKernel)
    ∧ quiescent_KernelIdeal (hKernelIdeal := hKernelIdeal)
    ∧ quiescent_KernelIdeal_pre_finite_and_no_zero_column (hKernelIdeal := hKernelIdeal) (hPre_finite_and_no_zero_column := hPre_finite_and_no_zero_column)
    ∧ quiescent_ReferenceIdeal (hReferenceIdeal := hReferenceIdeal)
    ∧ quiescent_ReferenceIdeal_pre_finite_and_no_zero_column (hReferenceIdeal := hReferenceIdeal) (hPre_finite_and_no_zero_column := hPre_finite_and_no_zero_column)
    ∧ preserves_Kernel_KernelIdeal
    ∧ algebraic_KernelIdeal_ReferenceIdeal_pre_finite_and_no_zero_column (hKernelIdeal := hKernelIdeal) (hReferenceIdeal := hReferenceIdeal) (hPre_finite_and_no_zero_column := hPre_finite_and_no_zero_column)
-- ==== Pre_finite_and_no_zero_column.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S32x512x3136 : Shape := ⟨3, ![32, 512, 3136]⟩
abbrev S32x3136x64 : Shape := ⟨3, ![32, 3136, 64]⟩
abbrev S32x64x3136 : Shape := ⟨3, ![32, 64, 3136]⟩
abbrev S1x64x1 : Shape := ⟨3, ![1, 64, 1]⟩
abbrev S_ : Shape := ⟨0, ![]⟩
abbrev S32x3136 : Shape := ⟨2, ![32, 3136]⟩
abbrev S32x1x3136 : Shape := ⟨3, ![32, 1, 3136]⟩
abbrev S32x512x64 : Shape := ⟨3, ![32, 512, 64]⟩
abbrev S1x512x64 : Shape := ⟨3, ![1, 512, 64]⟩
abbrev S32x64 : Shape := ⟨2, ![32, 64]⟩
abbrev S32x1x64 : Shape := ⟨3, ![32, 1, 64]⟩

class Facts : Prop where
  shapeCasts_S32x512x56x56_S32x512x3136 : S32x512x56x56.ShapeCasts S32x512x3136
  transposes_S32x3136x64_S32x64x3136_0_2_1 : S32x3136x64.Transposes [0, 2, 1] S32x64x3136
  bcast_S64_S1x64x1_1 : S64.BroadcastsInDim S1x64x1 (![1] : Fin 1 → Fin S1x64x1.rank)
  bcast_S1x64x1_S32x64x3136_0_1_2 : S1x64x1.BroadcastsInDim S32x64x3136 (![0, 1, 2] : Fin 3 → Fin S32x64x3136.rank)
  reducesTo_S32x64x3136_S32x3136_d1 : S32x64x3136.ReducesTo [1] S32x3136
  h_S_ : 0 < S_.numel
  bcast_S_S32x3136 : S_.BroadcastsInDim S32x3136 (![] : Fin 0 → Fin S32x3136.rank)
  bcast_S32x3136_S32x1x3136_0_2 : S32x3136.BroadcastsInDim S32x1x3136 (![0, 2] : Fin 2 → Fin S32x1x3136.rank)
  bcast_S32x1x3136_S32x64x3136_0_1_2 : S32x1x3136.BroadcastsInDim S32x64x3136 (![0, 1, 2] : Fin 3 → Fin S32x64x3136.rank)
  bcast_S512x64_S1x512x64_1_2 : S512x64.BroadcastsInDim S1x512x64 (![1, 2] : Fin 2 → Fin S1x512x64.rank)
  reducesTo_S32x64x3136_S32x64_d2 : S32x64x3136.ReducesTo [2] S32x64
  bcast_S32x64_S32x1x64_0_2 : S32x64.BroadcastsInDim S32x1x64 (![0, 2] : Fin 2 → Fin S32x1x64.rank)
  bcast_S1x512x64_S32x512x64_0_1_2 : S1x512x64.BroadcastsInDim S32x512x64 (![0, 1, 2] : Fin 3 → Fin S32x512x64.rank)
  bcast_S32x1x64_S32x512x64_0_1_2 : S32x1x64.BroadcastsInDim S32x512x64 (![0, 1, 2] : Fin 3 → Fin S32x512x64.rank)
  bcast_S_S32x512x56x56 : S_.BroadcastsInDim S32x512x56x56 (![] : Fin 0 → Fin S32x512x56x56.rank)
  bcast_S_S64x512 : S_.BroadcastsInDim S64x512 (![] : Fin 0 → Fin S64x512.rank)
  bcast_S_S64 : S_.BroadcastsInDim S64 (![] : Fin 0 → Fin S64.rank)
  bcast_S_S512x64 : S_.BroadcastsInDim S512x64 (![] : Fin 0 → Fin S512x64.rank)
  reducesTo_S32x512x64_S32x64_d1 : S32x512x64.ReducesTo [1] S32x64
  bcast_S_S32x64 : S_.BroadcastsInDim S32x64 (![] : Fin 0 → Fin S32x64.rank)
  dot_S32x512x3136_S64x512_S32x3136x64_1_1_02_0_n_n_wf : DotDims.WF S32x512x3136 S64x512 S32x3136x64 [1] [1] [0, 2] [0] [] []
  dot_S32x512x3136_S32x64x3136_S32x512x64_2_2_1_1_0_0_wf : DotDims.WF S32x512x3136 S32x64x3136 S32x512x64 [2] [2] [1] [1] [0] [0]

variable [Facts]

def dot_S32x512x3136_S64x512_S32x3136x64_1_1_02_0_n_n : DotDims S32x512x3136 S64x512 S32x3136x64 where
  lhsContracting := [1]
  rhsContracting := [1]
  lhsNonContracting := [0, 2]
  rhsNonContracting := [0]
  lhsBatch := []
  rhsBatch := []
  wf := dot_S32x512x3136_S64x512_S32x3136x64_1_1_02_0_n_n_wf
def dot_S32x512x3136_S32x64x3136_S32x512x64_2_2_1_1_0_0 : DotDims S32x512x3136 S32x64x3136 S32x512x64 where
  lhsContracting := [2]
  rhsContracting := [2]
  lhsNonContracting := [1]
  rhsNonContracting := [1]
  lhsBatch := [0]
  rhsBatch := [0]
  wf := dot_S32x512x3136_S32x64x3136_S32x512x64_2_2_1_1_0_0_wf
def fn_norm {F : FTy → Type} [FloatOps F] (arg0 : FVec F S32x512x64 .f32) : FVec F S32x64 .f32 :=
  let v0 : FVec F S32x512x64 .f32 := mulf arg0 arg0
  let cst : FVec F S_ .f32 := constant S_ .f32 0x00000000#32
  let v1 : FVec F S32x64 .f32 := (fun x v => Host.reduceAdd x v reducesTo_S32x512x64_S32x64_d1 h_S_) v0 cst
  let v2 : FVec F S32x64 .f32 := Host.sqrt v1
  v2

def fn_part2 {F : FTy → Type} [FloatOps F] (main_v27 : IVec S32x512x56x56 1) (main_v30 : IVec S64x512 1) (main_v33 : IVec S64 1) (main_v36 : IVec S512x64 1) (main_v37 : FVec F S32x64 .f32) (main_v38 : FVec F S32x64 .f32) : IVec S32x512x56x56 1 × IVec S64x512 1 × IVec S64 1 × IVec S512x64 1 × IVec S32x64 1 :=
  let main_v39 : IVec S32x64 1 := cmpf .ogt main_v37 main_v38
  (main_v27, main_v30, main_v33, main_v36, main_v39)

def fn_part1 {F : FTy → Type} [FloatOps F] (main_arg0 : FVec F S32x512x56x56 .f32) (main_arg1 : FVec F S64x512 .f32) (main_arg2 : FVec F S64 .f32) (main_arg3 : FVec F S512x64 .f32) (main_v17 : FVec F S32x512x64 .f32) (main_v18 : FVec F S1x512x64 .f32) (main_v19 : FVec F S32x64 .f32) : IVec S32x512x56x56 1 × IVec S64x512 1 × IVec S64 1 × IVec S512x64 1 × IVec S32x64 1 :=
  let main_v20 : FVec F S32x1x64 .f32 := broadcastInDim S32x1x64 ![0, 2] bcast_S32x64_S32x1x64_0_2 main_v19
  let main_v21 : FVec F S32x512x64 .f32 := broadcastInDim S32x512x64 ![0, 1, 2] bcast_S1x512x64_S32x512x64_0_1_2 main_v18
  let main_v22 : FVec F S32x512x64 .f32 := broadcastInDim S32x512x64 ![0, 1, 2] bcast_S32x1x64_S32x512x64_0_1_2 main_v20
  let main_v23 : FVec F S32x512x64 .f32 := mulf main_v21 main_v22
  let main_v24 : FVec F S32x512x64 .f32 := subf main_v17 main_v23
  let main_v25 : FVec F S32x512x56x56 .f32 := Host.absf main_arg0
  let main_cst_3 : FVec F S_ .f32 := constant S_ .f32 0x7F800000#32
  let main_v26 : FVec F S32x512x56x56 .f32 := broadcastInDim S32x512x56x56 ![] bcast_S_S32x512x56x56 main_cst_3
  let main_v27 : IVec S32x512x56x56 1 := cmpf .olt main_v25 main_v26
  let main_v28 : FVec F S64x512 .f32 := Host.absf main_arg1
  let main_cst_4 : FVec F S_ .f32 := constant S_ .f32 0x7F800000#32
  let main_v29 : FVec F S64x512 .f32 := broadcastInDim S64x512 ![] bcast_S_S64x512 main_cst_4
  let main_v30 : IVec S64x512 1 := cmpf .olt main_v28 main_v29
  let main_v31 : FVec F S64 .f32 := Host.absf main_arg2
  let main_cst_5 : FVec F S_ .f32 := constant S_ .f32 0x7F800000#32
  let main_v32 : FVec F S64 .f32 := broadcastInDim S64 ![] bcast_S_S64 main_cst_5
  let main_v33 : IVec S64 1 := cmpf .olt main_v31 main_v32
  let main_v34 : FVec F S512x64 .f32 := Host.absf main_arg3
  let main_cst_6 : FVec F S_ .f32 := constant S_ .f32 0x7F800000#32
  let main_v35 : FVec F S512x64 .f32 := broadcastInDim S512x64 ![] bcast_S_S512x64 main_cst_6
  let main_v36 : IVec S512x64 1 := cmpf .olt main_v34 main_v35
  let main_v37 : FVec F S32x64 .f32 := fn_norm (F := F) main_v24
  let main_cst_7 : FVec F S_ .f32 := constant S_ .f32 0x00000000#32
  let main_v38 : FVec F S32x64 .f32 := broadcastInDim S32x64 ![] bcast_S_S32x64 main_cst_7
  fn_part2 (F := F) main_v27 main_v30 main_v33 main_v36 main_v37 main_v38

def fn {F : FTy → Type} [FloatOps F] (main_arg0 : FVec F S32x512x56x56 .f32) (main_arg1 : FVec F S64x512 .f32) (main_arg2 : FVec F S64 .f32) (main_arg3 : FVec F S512x64 .f32) : IVec S32x512x56x56 1 × IVec S64x512 1 × IVec S64 1 × IVec S512x64 1 × IVec S32x64 1 :=
  let main_v0 : FVec F S32x512x3136 .f32 := shapeCast S32x512x3136 main_arg0 shapeCasts_S32x512x56x56_S32x512x3136
  let main_v1 : FVec F S32x3136x64 .f32 := (fun l r => Host.dotGeneral dot_S32x512x3136_S64x512_S32x3136x64_1_1_02_0_n_n none l r) main_v0 main_arg1
  let main_v2 : FVec F S32x64x3136 .f32 := (transpose S32x64x3136 [0, 2, 1] · transposes_S32x3136x64_S32x64x3136_0_2_1) main_v1
  let main_v3 : FVec F S1x64x1 .f32 := broadcastInDim S1x64x1 ![1] bcast_S64_S1x64x1_1 main_arg2
  let main_v4 : FVec F S32x64x3136 .f32 := broadcastInDim S32x64x3136 ![0, 1, 2] bcast_S1x64x1_S32x64x3136_0_1_2 main_v3
  let main_v5 : FVec F S32x64x3136 .f32 := addf main_v2 main_v4
  let main_cst : FVec F S_ .f32 := constant S_ .f32 0xFF800000#32
  let main_v6 : FVec F S32x3136 .f32 := (fun x v => Host.reduce FloatOps.maximumf x v reducesTo_S32x64x3136_S32x3136_d1 h_S_) main_v5 main_cst
  let main_cst_0 : FVec F S_ .f32 := constant S_ .f32 0xFF800000#32
  let main_v7 : FVec F S32x3136 .f32 := broadcastInDim S32x3136 ![] bcast_S_S32x3136 main_cst_0
  let main_v8 : FVec F S32x3136 .f32 := maximumf main_v7 main_v6
  let main_v9 : FVec F S32x1x3136 .f32 := broadcastInDim S32x1x3136 ![0, 2] bcast_S32x3136_S32x1x3136_0_2 main_v8
  let main_v10 : FVec F S32x64x3136 .f32 := broadcastInDim S32x64x3136 ![0, 1, 2] bcast_S32x1x3136_S32x64x3136_0_1_2 main_v9
  let main_v11 : FVec F S32x64x3136 .f32 := subf main_v5 main_v10
  let main_v12 : FVec F S32x64x3136 .f32 := Host.exp main_v11
  let main_cst_1 : FVec F S_ .f32 := constant S_ .f32 0x00000000#32
  let main_v13 : FVec F S32x3136 .f32 := (fun x v => Host.reduceAdd x v reducesTo_S32x64x3136_S32x3136_d1 h_S_) main_v12 main_cst_1
  let main_v14 : FVec F S32x1x3136 .f32 := broadcastInDim S32x1x3136 ![0, 2] bcast_S32x3136_S32x1x3136_0_2 main_v13
  let main_v15 : FVec F S32x64x3136 .f32 := broadcastInDim S32x64x3136 ![0, 1, 2] bcast_S32x1x3136_S32x64x3136_0_1_2 main_v14
  let main_v16 : FVec F S32x64x3136 .f32 := Host.divf main_v12 main_v15
  let main_v17 : FVec F S32x512x64 .f32 := (fun l r => Host.dotGeneral dot_S32x512x3136_S32x64x3136_S32x512x64_2_2_1_1_0_0 none l r) main_v0 main_v16
  let main_v18 : FVec F S1x512x64 .f32 := broadcastInDim S1x512x64 ![1, 2] bcast_S512x64_S1x512x64_1_2 main_arg3
  let main_cst_2 : FVec F S_ .f32 := constant S_ .f32 0x00000000#32
  let main_v19 : FVec F S32x64 .f32 := (fun x v => Host.reduceAdd x v reducesTo_S32x64x3136_S32x64_d2 h_S_) main_v16 main_cst_2
  fn_part1 (F := F) main_arg0 main_arg1 main_arg2 main_arg3 main_v17 main_v18 main_v19
-- ==== Kernel.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S32x512x3136 : Shape := ⟨3, ![32, 512, 3136]⟩
abbrev S32x3136x512 : Shape := ⟨3, ![32, 3136, 512]⟩
abbrev S1x64 : Shape := ⟨2, ![1, 64]⟩
abbrev S32x512x64 : Shape := ⟨3, ![32, 512, 64]⟩
abbrev S2x1568x512 : Shape := ⟨3, ![2, 1568, 512]⟩
abbrev S2x512x64 : Shape := ⟨3, ![2, 512, 64]⟩
abbrev S3136x512 : Shape := ⟨2, ![3136, 512]⟩
abbrev S3136x64 : Shape := ⟨2, ![3136, 64]⟩
abbrev S3136 : Shape := ⟨1, ![3136]⟩
abbrev S3136x1 : Shape := ⟨2, ![3136, 1]⟩
abbrev S1568x64 : Shape := ⟨2, ![1568, 64]⟩
abbrev S1568x512 : Shape := ⟨2, ![1568, 512]⟩
abbrev S1x512x64 : Shape := ⟨3, ![1, 512, 64]⟩
abbrev S1 : Shape := ⟨1, ![1]⟩
abbrev S1x1x1 : Shape := ⟨3, ![1, 1, 1]⟩
abbrev S1x1 : Shape := ⟨2, ![1, 1]⟩
abbrev S32x32768 : Shape := ⟨2, ![32, 32768]⟩

abbrev nBuf : Space → Nat
  | .hbm => 10
  | .vmem => 9
  | .smem => 0
  | _ => 0

abbrev bufTy : (tb : Table) → Fin (tcTables nBuf tb) → BufTy
  | .hbm, ⟨0, _⟩ => ⟨S32x512x56x56, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S32x512x3136, .f32⟩
  | .hbm, ⟨5, _⟩ => ⟨S32x3136x512, .f32⟩
  | .hbm, ⟨6, _⟩ => ⟨S64x512, .bf16⟩
  | .hbm, ⟨7, _⟩ => ⟨S1x64, .f32⟩
  | .hbm, ⟨8, _⟩ => ⟨S32x512x64, .f32⟩
  | .hbm, ⟨9, _⟩ => ⟨S32x32768, .f32⟩
  | .local _ .vmem, ⟨0, _⟩ => ⟨S2x1568x512, .f32⟩
  | .local _ .vmem, ⟨1, _⟩ => ⟨S2x1568x512, .f32⟩
  | .local _ .vmem, ⟨2, _⟩ => ⟨S2x1568x512, .f32⟩
  | .local _ .vmem, ⟨3, _⟩ => ⟨S2x1568x512, .f32⟩
  | .local _ .vmem, ⟨4, _⟩ => ⟨S64x512, .bf16⟩
  | .local _ .vmem, ⟨5, _⟩ => ⟨S1x64, .f32⟩
  | .local _ .vmem, ⟨6, _⟩ => ⟨S512x64, .f32⟩
  | .local _ .vmem, ⟨7, _⟩ => ⟨S2x512x64, .f32⟩
  | .local _ .vmem, ⟨8, _⟩ => ⟨S2x512x64, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1568x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1568x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S32x512x3136 : Shape := ⟨3, ![32, 512, 3136]⟩
abbrev S32x3136x64 : Shape := ⟨3, ![32, 3136, 64]⟩
abbrev S32x64x3136 : Shape := ⟨3, ![32, 64, 3136]⟩
abbrev S1x64x1 : Shape := ⟨3, ![1, 64, 1]⟩
abbrev S_ : Shape := ⟨0, ![]⟩
abbrev S32x3136 : Shape := ⟨2, ![32, 3136]⟩
abbrev S32x1x3136 : Shape := ⟨3, ![32, 1, 3136]⟩
abbrev S32x512x64 : Shape := ⟨3, ![32, 512, 64]⟩
abbrev S1x512x64 : Shape := ⟨3, ![1, 512, 64]⟩
abbrev S32x64 : Shape := ⟨2, ![32, 64]⟩
abbrev S32x1x64 : Shape := ⟨3, ![32, 1, 64]⟩
abbrev S32x32768 : Shape := ⟨2, ![32, 32768]⟩
abbrev S32 : Shape := ⟨1, ![32]⟩
abbrev S32x1 : Shape := ⟨2, ![32, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S32x512x3136, .f32⟩
  | .hbm, ⟨5, _⟩ => ⟨S32x3136x64, .f32⟩
  | .hbm, ⟨6, _⟩ => ⟨S32x64x3136, .f32⟩
  | .hbm, ⟨7, _⟩ => ⟨S1x64x1, .f32⟩
  | .hbm, ⟨8, _⟩ => ⟨S32x64x3136, .f32⟩
  | .hbm, ⟨9, _⟩ => ⟨S32x64x3136, .f32⟩
  | .hbm, ⟨10, _⟩ => ⟨S_, .f32⟩
  | .hbm, ⟨11, _⟩ => ⟨S32x3136, .f32⟩
  | .hbm, ⟨12, _⟩ => ⟨S_, .f32⟩
  | .hbm, ⟨13, _⟩ => ⟨S32x3136, .f32⟩
  | .hbm, ⟨14, _⟩ => ⟨S32x3136, .f32⟩
  | .hbm, ⟨15, _⟩ => ⟨S32x1x3136, .f32⟩
  | .hbm, ⟨16, _⟩ => ⟨S32x64x3136, .f32⟩
  | .hbm, ⟨17, _⟩ => ⟨S32x64x3136, .f32⟩
  | .hbm, ⟨18, _⟩ => ⟨S32x64x3136, .f32⟩
  | .hbm, ⟨19, _⟩ => ⟨S_, .f32⟩
  | .hbm, ⟨20, _⟩ => ⟨S32x3136, .f32⟩
  | .hbm, ⟨21, _⟩ => ⟨S32x1x3136, .f32⟩
  | .hbm, ⟨22, _⟩ => ⟨S32x64x3136, .f32⟩
  | .hbm, ⟨23, _⟩ => ⟨S32x64x3136, .f32⟩
  | .hbm, ⟨24, _⟩ => ⟨S32x512x64, .f32⟩
  | .hbm, ⟨25, _⟩ => ⟨S1x512x64, .f32⟩
  | .hbm, ⟨26, _⟩ => ⟨S_, .f32⟩
  | .hbm, ⟨27, _⟩ => ⟨S32x64, .f32⟩
  | .hbm, ⟨28, _⟩ => ⟨S32x1x64, .f32⟩
  | .hbm, ⟨29, _⟩ => ⟨S32x512x64, .f32⟩
  | .hbm, ⟨30, _⟩ => ⟨S32x512x64, .f32⟩
  | .hbm, ⟨31, _⟩ => ⟨S32x512x64, .f32⟩
  | .hbm, ⟨32, _⟩ => ⟨S32x512x64, .f32⟩
  | .hbm, ⟨33, _⟩ => ⟨S32x512x64, .f32⟩
  | .hbm, ⟨34, _⟩ => ⟨S_, .f32⟩
  | .hbm, ⟨35, _⟩ => ⟨S32x64, .f32⟩
  | .hbm, ⟨36, _⟩ => ⟨S32x1x64, .f32⟩
  | .hbm, ⟨37, _⟩ => ⟨S32x1x64, .f32⟩
  | .hbm, ⟨38, _⟩ => ⟨S32x512x64, .f32⟩
  | .hbm, ⟨39, _⟩ => ⟨S32x512x64, .f32⟩
  | .hbm, ⟨40, _⟩ => ⟨S32x32768, .f32⟩
  | .hbm, ⟨41, _⟩ => ⟨S32x32768, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S32x1, .f32⟩
  | .hbm, ⟨46, _⟩ => ⟨S32x32768, .f32⟩
  | .hbm, ⟨47, _⟩ => ⟨S32x32768, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Spec.lean ====
/- The mathematics of the pooling over real numbers: for one image, whose columns are 3136 feature vectors of length 512,
   each vector is shared among 64 clusters by a softmax of linear scores, the residuals against the cluster
   centres are pooled, and the pooled matrix is normalised column by column and then as a whole. -/
module

public import Idealize.ShloMosaic.PureOps.Ideal

@[expose] public section

noncomputable section

namespace Cert.Vlad

open Idealize.ShloMosaic

/-! ## One feature vector -/

/-- The score of cluster `k` for the feature vector `u`. -/
def score (w : Fin 64 → Fin 512 → ℝ) (b : Fin 64 → ℝ) (u : Fin 512 → ℝ) (k : Fin 64) : ℝ :=
  ∑ d, u d * w k d + b k

/-- The share of the feature vector `u` that goes to cluster `k`. -/
def share (w : Fin 64 → Fin 512 → ℝ) (b : Fin 64 → ℝ) (u : Fin 512 → ℝ) (k : Fin 64) : ℝ :=
  Real.exp (score w b u k) / ∑ j, Real.exp (score w b u j)

/-! ## One image -/

/-- The pooled residuals of the image `x`, before any normalisation. -/
def pooled (w : Fin 64 → Fin 512 → ℝ) (b : Fin 64 → ℝ) (c : Fin 512 → Fin 64 → ℝ) (x : Fin 512 → Fin 3136 → ℝ)
    (d : Fin 512) (k : Fin 64) : ℝ :=
  ∑ n, x d n * share w b (fun d => x d n) k - c d k * ∑ n, share w b (fun d => x d n) k

/-! ## The two normalisations of a matrix -/

/-- The sum of the squares of column `k`. -/
def colSq (r : Fin 512 → Fin 64 → ℝ) (k : Fin 64) : ℝ := ∑ d, r d k * r d k

/-- The matrix with each column divided by its length. -/
def unitCols (r : Fin 512 → Fin 64 → ℝ) (d : Fin 512) (k : Fin 64) : ℝ := r d k * (√(colSq r k))⁻¹

/-- The sum of the squares of all entries. -/
def allSq (r : Fin 512 → Fin 64 → ℝ) : ℝ := ∑ d, ∑ k, r d k * r d k

/-- The matrix with unit columns, divided by its length. -/
def normalised (r : Fin 512 → Fin 64 → ℝ) (d : Fin 512) (k : Fin 64) : ℝ :=
  unitCols r d k * (√(allSq (unitCols r)))⁻¹

/-! ## Facts about the shares -/

/-- A sum of exponentials is positive. -/
theorem sum_exp_pos (f : Fin 64 → ℝ) : 0 < ∑ j, Real.exp (f j) :=
  Finset.sum_pos (fun j _ => Real.exp_pos (f j)) ⟨0, Finset.mem_univ _⟩

/-- Lowering every score by the same amount leaves the shares as they are. -/
theorem share_shift (w : Fin 64 → Fin 512 → ℝ) (b : Fin 64 → ℝ) (u : Fin 512 → ℝ) (a : ℝ) (k : Fin 64) :
    Real.exp (score w b u k - a) / ∑ j, Real.exp (score w b u j - a) = share w b u k := by
  simp only [Real.exp_sub, ← Finset.sum_div]
  exact div_div_div_cancel_right₀ (Real.exp_pos a).ne' _ _

/-! ## Facts about the normalisations -/

/-- A column of positive length, divided by it, has squares summing to one. -/
theorem colSq_unitCols (r : Fin 512 → Fin 64 → ℝ) (k : Fin 64) (h : 0 < colSq r k) : colSq (unitCols r) k = 1 := by
  have e : ∀ d, unitCols r d k * unitCols r d k = r d k * r d k * (colSq r k)⁻¹ := fun d => by
    unfold unitCols
    rw [mul_mul_mul_comm, ← mul_inv, Real.mul_self_sqrt h.le]
  calc colSq (unitCols r) k = ∑ d, r d k * r d k * (colSq r k)⁻¹ := Finset.sum_congr rfl fun d _ => e d
    _ = colSq r k * (colSq r k)⁻¹ := (Finset.sum_mul _ _ _).symm
    _ = 1 := mul_inv_cancel₀ h.ne'

/-- So the squares of the whole matrix sum to a positive number. -/
theorem allSq_unitCols_pos (r : Fin 512 → Fin 64 → ℝ) (h : ∀ k, 0 < colSq r k) : 0 < allSq (unitCols r) := by
  have e : allSq (unitCols r) = ∑ k, colSq (unitCols r) k := Finset.sum_comm
  rw [e, Finset.sum_congr rfl fun k _ => colSq_unitCols r k (h k)]
  simp

/-! ## Real numbers among the extended ones -/

/-- A sum of real numbers, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The exponential of a real number. -/
theorem exp_real (r : ℝ) : Ideal.exp (r : EReal) = (Real.exp r : EReal) := rfl

/-- A real quotient. -/
theorem div_real (a b : ℝ) (h : b ≠ 0) : Ideal.div (a : EReal) (b : EReal) = ((a / b : ℝ) : EReal) := by
  rw [Ideal.div_coe h, ← EReal.coe_mul, one_div, div_eq_mul_inv]

/-- The reciprocal root of a positive number. -/
theorem rsqrt_real (r : ℝ) (h : 0 < r) : Ideal.rsqrt (r : EReal) = (((√r)⁻¹ : ℝ) : EReal) := by
  rw [Ideal.rsqrt_coe, if_neg (not_lt.2 h.le), if_neg h.ne']

/-- The root of a number that isn't negative. -/
theorem sqrt_real (r : ℝ) (h : 0 ≤ r) : Ideal.sqrt (r : EReal) = ((√r : ℝ) : EReal) := by
  rw [Ideal.sqrt_coe, if_neg (not_lt.2 h)]

end Cert.Vlad

end
-- ==== Proof.Inputs.lean ====
/- The arguments as real arrays, and the result they are to give. -/
module

public import proofs.«01_k».proof.Proof.Spec
public import Idealize.ShloMosaic.Lib.Pointwise

@[expose] public section

noncomputable section

namespace Cert.Vlad

open Idealize.ShloMosaic

/-- Pixel `n` of an image is in row `n / 56` and column `n % 56`. -/
theorem row (n : Fin 3136) : (n : ℕ) / 56 < 56 := by omega
/-- Pixel `n` lies in column `n % 56`. -/
theorem col (n : Fin 3136) : (n : ℕ) % 56 < 56 := by omega

/-- The real arrays that the arguments hold: images `x` (pixels in one line), weights, biases and centres. -/
structure Holds (x : Fin 32 → Fin 512 → Fin 3136 → ℝ) (w : Fin 64 → Fin 512 → ℝ) (b : Fin 64 → ℝ)
    (ce : Fin 512 → Fin 64 → ℝ) (A₀ : FVec Ideal ⟨4, ![32, 512, 56, 56]⟩ .f32) (A₁ : FVec Ideal ⟨2, ![64, 512]⟩ .f32)
    (A₂ : FVec Ideal ⟨1, ![64]⟩ .f32) (A₃ : FVec Ideal ⟨2, ![512, 64]⟩ .f32) : Prop where
  images : ∀ i d (n : Fin 3136), A₀ (ix4 i d ⟨(n : ℕ) / 56, row n⟩ ⟨(n : ℕ) % 56, col n⟩) = (x i d n : EReal)
  weights : ∀ k d, A₁ (ix2 k d) = (w k d : EReal)
  biases : ∀ k, A₂ (ix1 k) = (b k : EReal)
  centres : ∀ d k, A₃ (ix2 d k) = (ce d k : EReal)

/-- Every image's normalised pooled residuals. -/
def result (x : Fin 32 → Fin 512 → Fin 3136 → ℝ) (w : Fin 64 → Fin 512 → ℝ) (b : Fin 64 → ℝ)
    (ce : Fin 512 → Fin 64 → ℝ) : FVec Ideal ⟨3, ![32, 512, 64]⟩ .f32 :=
  fun j => (normalised (pooled w b ce (x (j 0))) (j 1) (j 2) : EReal)

end Cert.Vlad

end
-- ==== Proof.KernelBlock.lean ====
/- What one block of the kernel computes: from the two halves of the feature vectors of two images, both images'
   normalised pooled residuals. -/
module

public import proofs.«01_k».proof.Proof.Spec
public import proofs.«01_k».proof.Proof.Gen.KernelIdeal.Frame
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.Vlad

/-- Vector `r` of the first half is vector `r` of the image. -/
theorem inFirst (r : Fin 1568) : (r : ℕ) < 3136 := by omega

/-- Vector `r` of the second half is vector `1568 + r` of the image. -/
theorem inSecond (r : Fin 1568) : 1568 + (r : ℕ) < 3136 := by omega

/-! ## The shares of one half

    A half `X` holds 1568 feature vectors of each of the two images. The kernel lays them out as 3136 rows, the
    first image's before the second's. -/

section Shares

variable {W : FVec Ideal S64x512 .bf16} {B : FVec Ideal S1x64 .f32} {X : FVec Ideal S2x1568x512 .f32}
  {w : Fin 64 → Fin 512 → ℝ} {b : Fin 64 → ℝ} {y : Fin 2 → Fin 1568 → Fin 512 → ℝ}

/-- The second half's shares are computed as the first half's are. -/
theorem shares_again : k0_pay13 (F := Ideal) (k0_pay3 W) (k0_pay4 B) X = k0_pay6 W B X := rfl

/-- The shares of the row that holds vector `r` of image `i`. -/
theorem shares_at (hW : ∀ k d, W (ix2 k d) = (w k d : EReal)) (hB : ∀ k, B (ix2 0 k) = (b k : EReal))
    (hX : ∀ i r d, X (ix3 i r d) = (y i r d : EReal)) (q : Fin 3136) (i : Fin 2) (r : Fin 1568)
    (hi : (q : ℕ) / 1568 = i) (hr : (q : ℕ) % 1568 = r) (k : Fin 64) :
    k0_pay6 (F := Ideal) W B X (ix2 q k) = (share w b (y i r) k : EReal) := by
  have ei : ∀ h, (⟨(q : ℕ) / 1568, h⟩ : Fin 2) = i := fun h => Fin.ext hi
  have er : ∀ h, (⟨(q : ℕ) % 1568, h⟩ : Fin 1568) = r := fun h => Fin.ext hr
  pointwise [k0_pay6, k0_pay5, k0_pay3, k0_pay4]
  simp only [ei, er, hW, hB, hX, ← EReal.coe_mul, coe_sum, ← EReal.coe_add, exp_real]
  exact div_real _ _ (sum_exp_pos (score w b (y i r))).ne'

/-- Rows of the first image come first among the shares. -/
theorem shares_first (hW : ∀ k d, W (ix2 k d) = (w k d : EReal)) (hB : ∀ k, B (ix2 0 k) = (b k : EReal))
    (hX : ∀ i r d, X (ix3 i r d) = (y i r d : EReal)) (r : Fin 1568) (h : (r : ℕ) < 3136) (k : Fin 64) :
    k0_pay6 (F := Ideal) W B X (ix2 ⟨(r : ℕ), h⟩ k) = (share w b (y 0 r) k : EReal) :=
  shares_at hW hB hX _ 0 r (by simp) (by simp) k

/-- Rows of the second image come after them. -/
theorem shares_second (hW : ∀ k d, W (ix2 k d) = (w k d : EReal)) (hB : ∀ k, B (ix2 0 k) = (b k : EReal))
    (hX : ∀ i r d, X (ix3 i r d) = (y i r d : EReal)) (r : Fin 1568) (h : 1568 + (r : ℕ) < 3136) (k : Fin 64) :
    k0_pay6 (F := Ideal) W B X (ix2 ⟨1568 + (r : ℕ), h⟩ k) = (share w b (y 1 r) k : EReal) :=
  shares_at hW hB hX _ 1 r (by simp) (by simp) k

/-- A row below 1568 belongs to the first image. -/
theorem image_first (r : Fin 1568) (h : (r : ℕ) / 1568 < 2) : (⟨(r : ℕ) / 1568, h⟩ : Fin 2) = 0 := Fin.ext (by simp)

/-- A row from 1568 on belongs to the second image. -/
theorem image_second (r : Fin 1568) (h : (1568 + (r : ℕ)) / 1568 < 2) : (⟨(1568 + (r : ℕ)) / 1568, h⟩ : Fin 2) = 1 :=
  Fin.ext (by simp)

/-- A row below 1568 is the vector of that number. -/
theorem vector_first (r : Fin 1568) (h : (r : ℕ) % 1568 < 1568) : (⟨(r : ℕ) % 1568, h⟩ : Fin 1568) = r :=
  Fin.ext (Nat.mod_eq_of_lt r.isLt)

end Shares

/-! ## The sums over both halves -/

section Sums

variable {W : FVec Ideal S64x512 .bf16} {B : FVec Ideal S1x64 .f32} {X₀ X₁ : FVec Ideal S2x1568x512 .f32}
  {w : Fin 64 → Fin 512 → ℝ} {b : Fin 64 → ℝ} {x : Fin 2 → Fin 512 → Fin 3136 → ℝ}

/-- The sum of the first image's shares after the second half, from the sum `S` after the first. -/
def total (W : FVec Ideal S64x512 .bf16) (B : FVec Ideal S1x64 .f32) (S : FVec Ideal S1x64 .f32)
    (X : FVec Ideal S2x1568x512 .f32) : FVec Ideal S1x64 .f32 :=
  addf S (shapeCast S1x64 (multiReduction .add [0] S64
    (extractStridedSlice S1568x64 ![0, 0] (k0_pay13 (F := Ideal) W B X) slices_S3136x64_o0_0_S1568x64)
    0x00000000#32 reduces_S1568x64_S64 (.inl rfl) rfl) shapeCasts_S64_S1x64)

/-- The first image's pooled vectors after the second half, from what `V` holds after the first. -/
def pool (W : FVec Ideal S64x512 .bf16) (B : FVec Ideal S1x64 .f32) (V : FVec Ideal S512x64 .f32)
    (X : FVec Ideal S2x1568x512 .f32) : FVec Ideal S512x64 .f32 :=
  addf V (matmul dot_S1568x512_S1568x64_S512x64_0_0_1_1_n_n none
    (extractStridedSlice S1568x512 ![0, 0] (k0_pay12 (F := Ideal) X) slices_S3136x512_o0_0_S1568x512)
    (extractStridedSlice S1568x64 ![0, 0] (k0_pay14 (F := Ideal) W B X) slices_S3136x64_o0_0_S1568x64)
    (constant S512x64 .f32 0x00000000#32))

/-- The first image is finished from its sums as the second is. -/
theorem first_as_second (W : FVec Ideal S64x512 .bf16) (B : FVec Ideal S1x64 .f32) (C : FVec Ideal S512x64 .f32)
    (S : FVec Ideal S1x64 .f32) (V : FVec Ideal S512x64 .f32) (X : FVec Ideal S2x1568x512 .f32) :
    k0_pay1 (F := Ideal) (k0_pay17 W B C S V X) = k0_pay2 C (total W B S X) (pool W B V X) := rfl

variable (hW : ∀ k d, W (ix2 k d) = (w k d : EReal)) (hB : ∀ k, B (ix2 0 k) = (b k : EReal))
  (h₀ : ∀ i (r : Fin 1568) d, X₀ (ix3 i r d) = (x i d ⟨r, inFirst r⟩ : EReal))
  (h₁ : ∀ i (r : Fin 1568) d, X₁ (ix3 i r d) = (x i d ⟨1568 + r, inSecond r⟩ : EReal))

/-- A sum over all vectors is the sum over the first half and the sum over the second. -/
theorem sum_halves (f : Fin 3136 → ℝ) :
    ∑ n, f n = ∑ r : Fin 1568, f ⟨r, inFirst r⟩ + ∑ r : Fin 1568, f ⟨1568 + r, inSecond r⟩ :=
  Fin.sum_univ_add (a := 1568) (b := 1568) f

include hW hB h₀ h₁

/-- The first image's shares, summed over both halves of its vectors. -/
theorem total_first (k : Fin 64) :
    total (k0_pay3 W) (k0_pay4 B) (k0_pay8 (F := Ideal) W B X₀) X₁ (ix2 0 k)
      = ((∑ n, share w b (fun d => x 0 d n) k : ℝ) : EReal) := by
  rw [sum_halves]
  pointwise [total, k0_pay8, shares_again]
  simp only [shares_first hW hB h₀, shares_first hW hB h₁, coe_sum, ← EReal.coe_add]

/-- The second image's shares, summed over both halves of its vectors. -/
theorem total_second (k : Fin 64) :
    k0_pay15 (k0_pay3 W) (k0_pay4 B) (k0_pay10 (F := Ideal) W B X₀) X₁ (ix2 0 k)
      = ((∑ n, share w b (fun d => x 1 d n) k : ℝ) : EReal) := by
  rw [sum_halves]
  pointwise [k0_pay15, k0_pay10, shares_again]
  simp only [shares_second hW hB h₀, shares_second hW hB h₁, coe_sum, ← EReal.coe_add]

/-- The first image's vectors, weighted by their shares and summed over both halves. -/
theorem pool_first (d : Fin 512) (k : Fin 64) :
    pool (k0_pay3 W) (k0_pay4 B) (k0_pay9 (F := Ideal) W B X₀) X₁ (ix2 d k)
      = ((∑ n, x 0 d n * share w b (fun d => x 0 d n) k : ℝ) : EReal) := by
  rw [sum_halves]
  pointwise [pool, k0_pay9, k0_pay14, k0_pay7, k0_pay12, k0_pay5, shares_again]
  simp only [shares_first hW hB h₀, shares_first hW hB h₁, image_first, vector_first, h₀, h₁, ← EReal.coe_mul, coe_sum,
    ← EReal.coe_add]

/-- The second image's vectors, weighted by their shares and summed over both halves. -/
theorem pool_second (d : Fin 512) (k : Fin 64) :
    k0_pay16 (k0_pay3 W) (k0_pay4 B) (k0_pay11 (F := Ideal) W B X₀) X₁ (ix2 d k)
      = ((∑ n, x 1 d n * share w b (fun d => x 1 d n) k : ℝ) : EReal) := by
  rw [sum_halves]
  pointwise [k0_pay16, k0_pay11, k0_pay14, k0_pay7, k0_pay12, k0_pay5, shares_again]
  simp only [shares_second hW hB h₀, shares_second hW hB h₁, image_second, h₀, h₁, ← EReal.coe_mul, coe_sum,
    ← EReal.coe_add]

end Sums

/-! ## The normalisation -/

/-- From the pooled vectors `V`, the centres `C` and the sums of shares `S`, all real, the kernel's last steps are the
    two normalisations of the residuals, provided no column of these is zero. -/
theorem normalise (C : FVec Ideal S512x64 .f32) (S : FVec Ideal S1x64 .f32) (V : FVec Ideal S512x64 .f32)
    (c : Fin 512 → Fin 64 → ℝ) (s : Fin 64 → ℝ) (v : Fin 512 → Fin 64 → ℝ)
    (hC : ∀ d k, C (ix2 d k) = (c d k : EReal)) (hS : ∀ k, S (ix2 0 k) = (s k : EReal))
    (hV : ∀ d k, V (ix2 d k) = (v d k : EReal)) (hpos : ∀ k, 0 < colSq (fun d k => v d k - c d k * s k) k)
    (d : Fin 512) (k : Fin 64) :
    k0_pay2 (F := Ideal) C S V (ix3 0 d k) = (normalised (fun d k => v d k - c d k * s k) d k : EReal) := by
  have hall := allSq_unitCols_pos _ hpos
  have hcol : ∀ k, Ideal.rsqrt ((∑ d, (v d k - c d k * s k) * (v d k - c d k * s k) : ℝ) : EReal)
      = (((√(colSq (fun d k => v d k - c d k * s k) k))⁻¹ : ℝ) : EReal) := fun k => rsqrt_real _ (hpos k)
  pointwise [k0_pay2]
  simp only [hC, hS, hV, ← EReal.coe_mul, ← EReal.coe_sub, coe_sum, hcol]
  refine (congrArg _ (rsqrt_real _ hall)).trans ?_
  rw [← EReal.coe_mul]
  rfl

/-! ## The two images of a block -/

section Images

variable {W : FVec Ideal S64x512 .bf16} {B : FVec Ideal S1x64 .f32} {C : FVec Ideal S512x64 .f32}
  {X₀ X₁ : FVec Ideal S2x1568x512 .f32}
  {w : Fin 64 → Fin 512 → ℝ} {b : Fin 64 → ℝ} {c : Fin 512 → Fin 64 → ℝ} {x : Fin 2 → Fin 512 → Fin 3136 → ℝ}
  (hW : ∀ k d, W (ix2 k d) = (w k d : EReal)) (hB : ∀ k, B (ix2 0 k) = (b k : EReal))
  (hC : ∀ d k, C (ix2 d k) = (c d k : EReal))
  (h₀ : ∀ i (r : Fin 1568) d, X₀ (ix3 i r d) = (x i d ⟨r, inFirst r⟩ : EReal))
  (h₁ : ∀ i (r : Fin 1568) d, X₁ (ix3 i r d) = (x i d ⟨1568 + r, inSecond r⟩ : EReal))
  (hpos : ∀ i k, 0 < colSq (pooled w b c (x i)) k)

include hW hB hC h₀ h₁ hpos

/-- What the block stores for its first image. -/
theorem first_image (d : Fin 512) (k : Fin 64) :
    k0_pay1 (F := Ideal) (k0_pay17 (k0_pay3 W) (k0_pay4 B) C (k0_pay8 W B X₀) (k0_pay9 W B X₀) X₁) (ix3 0 d k)
      = (normalised (pooled w b c (x 0)) d k : EReal) := by
  rw [first_as_second]
  exact normalise C _ _ c _ _ hC (total_first hW hB h₀ h₁) (pool_first hW hB h₀ h₁) (hpos 0) d k

/-- What the block stores for its second image. -/
theorem second_image (d : Fin 512) (k : Fin 64) :
    k0_pay2 (F := Ideal) C (k0_pay15 (k0_pay3 W) (k0_pay4 B) (k0_pay10 W B X₀) X₁)
        (k0_pay16 (k0_pay3 W) (k0_pay4 B) (k0_pay11 W B X₀) X₁) (ix3 0 d k)
      = (normalised (pooled w b c (x 1)) d k : EReal) :=
  normalise C _ _ c _ _ hC (total_second hW hB h₀ h₁) (pool_second hW hB h₀ h₁) (hpos 1) d k

end Images

end Cert.KernelIdeal.Block

end
-- ==== Proof.KernelArray.lean ====
/- What the kernel's array holds after the run: every image's normalised pooled residuals. -/
module

public import proofs.«01_k».proof.Proof.Inputs
public import proofs.«01_k».proof.Proof.KernelBlock
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Vlad

variable (m : (ℓ : Loc nD τ sig) → Buf (Elt Ideal) ℓ) (c : Dev nD)
  {x : Fin 32 → Fin 512 → Fin 3136 → ℝ} {w : Fin 64 → Fin 512 → ℝ} {b : Fin 64 → ℝ} {ce : Fin 512 → Fin 64 → ℝ}

/-- The block each window stages at grid point `t`. -/
theorem index_at : ∀ t : Fin cfg0.N, win0_0.index t = ![t.val, 0, 0] ∧ win0_1.index t = ![t.val, 1, 0]
    ∧ win0_2.index t = ![0, 0] ∧ win0_3.index t = ![0, 0] ∧ win0_4.index t = ![0, 0] ∧ win0_5.index t = ![t.val, 0, 0] :=
  (by decide +kernel : ∀ t : Fin grid0.N, _)

/-- Image `i` of grid point `t` is image `2 t + i` of the batch. -/
theorem image_lt (t : Fin cfg0.N) (i : Fin 2) : 2 * t.val + i < 32 := by have := lt_of_lt_of_eq t.isLt N_0; omega

/-! ## What the arrays hold when the kernel starts -/

/-- The images lie transposed: a pixel of the line, then its features. -/
theorem entry_images (i : Fin 32) (n : Fin 3136) (d : Fin 512) :
    (show FVec Ideal S32x3136x512 .f32 from V m c main_v1) (ix3 i n d)
      = (show FVec Ideal S32x512x56x56 .f32 from m ((c : Thread nD τ).loc main_arg0))
          (ix4 i d ⟨(n : ℕ) / 56, row n⟩ ⟨(n : ℕ) % 56, col n⟩) := by
  unfold V
  after_reads_at

/-- The weights lie as given. -/
theorem entry_w (k : Fin 64) (d : Fin 512) :
    (show FVec Ideal S64x512 .bf16 from V m c main_v2) (ix2 k d)
      = (show FVec Ideal S64x512 .f32 from m ((c : Thread nD τ).loc main_arg1)) (ix2 k d) := by
  unfold V
  after_reads_at

/-- The biases lie as one row. -/
theorem entry_b (k : Fin 64) :
    (show FVec Ideal S1x64 .f32 from V m c main_v3) (ix2 0 k)
      = (show FVec Ideal S64 .f32 from m ((c : Thread nD τ).loc main_arg2)) (ix1 k) := by
  unfold V
  after_reads_at

/-! ## The blocks staged at a grid point -/

/-- The first window stages the first half of the pixels of two images. -/
theorem block_first (t : Fin cfg0.N) (i : Fin 2) (r : Fin 1568) (d : Fin 512) :
    (show FVec Ideal S2x1568x512 .f32 from iblk m c 0 t) (ix3 i r d)
      = (show FVec Ideal S32x3136x512 .f32 from V m c main_v1)
          (ix3 ⟨2 * t.val + i, image_lt t i⟩ ⟨r, inFirst r⟩ d) := by
  blk_point [iblk, index_at t]

/-- The second window stages the second half of the pixels of the same two images. -/
theorem block_second (t : Fin cfg0.N) (i : Fin 2) (r : Fin 1568) (d : Fin 512) :
    (show FVec Ideal S2x1568x512 .f32 from iblk m c 1 t) (ix3 i r d)
      = (show FVec Ideal S32x3136x512 .f32 from V m c main_v1)
          (ix3 ⟨2 * t.val + i, image_lt t i⟩ ⟨1568 + r, inSecond r⟩ d) := by
  blk_point [iblk, index_at t]

/-- The weights are staged whole. -/
theorem block_w (t : Fin cfg0.N) (k : Fin 64) (d : Fin 512) :
    (show FVec Ideal S64x512 .bf16 from iblk m c 2 t) (ix2 k d)
      = (show FVec Ideal S64x512 .bf16 from V m c main_v2) (ix2 k d) := by
  blk_point [iblk, index_at t]

/-- The biases are staged whole. -/
theorem block_b (t : Fin cfg0.N) (k : Fin 64) :
    (show FVec Ideal S1x64 .f32 from iblk m c 3 t) (ix2 0 k)
      = (show FVec Ideal S1x64 .f32 from V m c main_v3) (ix2 0 k) := by
  blk_point [iblk, index_at t]

/-- The centres are staged whole. -/
theorem block_c (t : Fin cfg0.N) (d : Fin 512) (k : Fin 64) :
    (show FVec Ideal S512x64 .f32 from iblk m c 4 t) (ix2 d k)
      = (show FVec Ideal S512x64 .f32 from m ((c : Thread nD τ).loc main_arg3)) (ix2 d k) := by
  rw [← V_main_arg3 m c]
  blk_point [iblk, index_at t]

/-- A load of a staged half of the pixels is the whole of it. -/
theorem load_images (A : Vec Ideal S2x1568x512 .f32) : View.ld A r0_3 = A := by funext j; idx_vars j; pointwise []
/-- A load of the staged weights is the whole of them. -/
theorem load_w (A : Vec Ideal S64x512 .bf16) : View.ld A r0_0 = A := by funext j; idx_vars j; pointwise []
/-- A load of the staged biases is the whole of them. -/
theorem load_b (A : Vec Ideal S1x64 .f32) : View.ld A r0_1 = A := by
  funext j; idx_vars j; pointwise []; rw [Subsingleton.elim j0 0]
/-- A load of the staged centres is the whole of them. -/
theorem load_c (A : Vec Ideal S512x64 .f32) : View.ld A r0_2 = A := by funext j; idx_vars j; pointwise []

/-! ## The array after the run -/

variable (h : Holds x w b ce (m ((c : Thread nD τ).loc main_arg0)) (m ((c : Thread nD τ).loc main_arg1))
    (m ((c : Thread nD τ).loc main_arg2)) (m ((c : Thread nD τ).loc main_arg3)))
  (hpos : ∀ i k, 0 < colSq (pooled w b ce (x i)) k)

/-- The image that grid point `t` treats as its image `i`. -/
def image (t : Fin cfg0.N) (i : Fin 2) : Fin 32 := ⟨2 * t.val + i, image_lt t i⟩

include h hpos

/-- After the run the array holds every image's normalised pooled residuals. -/
theorem final : (dats m 0 c).arrAt 5 (cfgs 0).N = result x w b ce := by
  refine (dats m 0 c).arrAt_eq_of_covers 5 _ (by decide +kernel) fun t _ y => ?_
  have hW := fun k d => ((block_w m c t k d).trans (entry_w m c k d)).trans (h.weights k d)
  have hB := fun k => ((block_b m c t k).trans (entry_b m c k)).trans (h.biases k)
  have hC := fun d k => (block_c m c t d k).trans (h.centres d k)
  have h₀ := fun i r d => ((block_first m c t i r d).trans (entry_images m c _ _ d)).trans (h.images (image t i) d _)
  have h₁ := fun i r d => ((block_second m c t i r d).trans (entry_images m c _ _ d)).trans (h.images (image t i) d _)
  have hp := fun i => hpos (image t i)
  blk_simp
  rw [after0_5]
  unfold_out out0_5
  canon_tiles z e
  · idx_vars z
    obtain rfl : z0 = 0 := Subsingleton.elim _ _
    rw [load_images, load_images, load_w, load_b, load_c]
    refine (second_image (x := fun i => x (image t i)) hW hB hC h₀ h₁ hp z1 z2).trans ?_
    refine congrArg (result x w b ce) (a₁ := ix3 (image t 1) z1 z2) ?_
    unfold image
    blk_ext [index_at t]
  · idx_vars z
    obtain rfl : z0 = 0 := Subsingleton.elim _ _
    rw [load_images, load_images, load_w, load_b, load_c]
    refine (first_image (x := fun i => x (image t i)) hW hB hC h₀ h₁ hp z1 z2).trans ?_
    refine congrArg (result x w b ce) (a₁ := ix3 (image t 0) z1 z2) ?_
    unfold image
    blk_ext [index_at t]

end Cert.KernelIdeal.Block

end
-- ==== Proof.KernelRun.lean ====
/- The kernel's run: its result is the array that the blocks leave, each image's matrix in one line. -/
module

public import proofs.«01_k».proof.Proof.KernelArray

@[expose] public section

set_option maxRecDepth 16384

noncomputable section

namespace Cert.KernelIdeal.Block

open Idealize.ShloMosaic Idealize.ShloMosaic.TcCoe Idealize.SL.Sem
open Cert.KernelIdeal Cert.KernelIdeal.Gen Cert.Vlad

variable (m : (ℓ : Loc nD τ sig) → Buf (Elt Ideal) ℓ) (ρ : Dev nD → PrngReg)

/-- The kernel's result: the array after the run with each image's matrix in one line. -/
def lines (c : Dev nD) : Buf (Elt Ideal) ((c : Thread nD τ).loc main_v5) :=
  shapeCast S32x32768 (show FVec Ideal S32x512x64 .f32 from (dats m 0 c).arrAt 5 (cfgs 0).N) shapeCasts_S32x512x64_S32x32768

/-- Every run ends with that result and with the arguments unchanged. -/
theorem run : θ_run defs (onTc (τ := τ) (main (F := Ideal))) ⟨m, fun _ => 0, ρ⟩ fun r => ∀ c : Dev nD,
      r.2.mem ((c.tc : Thread nD τ).loc main_v5) = lines m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from (run_main m ρ) & (unchanged m ρ)
  unfold Pipeline.afterTail₀
  have e := (dats m 0 c).withArrays_arrAt sharedIn0 (V0 m c) (A_eq m c) 5
  rw [show [hostOps1 (F := Ideal)].flatten = hostOps1 from List.append_nil _]
  unfold hostOps1
  after_results
  funext j
  exact congrFun (congrArg (fun A => shapeCast S32x32768 A shapeCasts_S32x512x64_S32x32768) e) j

end Cert.KernelIdeal.Block

end
-- ==== Proof.Reference.lean ====
/- What the reference computes: the residuals, then the two normalisations, read at an index. -/
module

public import proofs.«01_k».proof.Proof.Inputs
public import proofs.«01_k».proof.Proof.Gen.ReferenceIdeal.Run

@[expose] public section

set_option maxRecDepth 16384

noncomputable section

namespace Cert.ReferenceIdeal.Pooling

open Idealize.ShloMosaic Idealize.ShloMosaic.TcCoe Idealize.SL.Sem
open Cert.ReferenceIdeal Cert.ReferenceIdeal.Gen Cert.Vlad

/-! ## The reference in steps -/

section Steps

variable (A₀ : FVec Ideal S32x512x56x56 .f32) (A₁ : FVec Ideal S64x512 .f32) (A₂ : FVec Ideal S64 .f32)
  (A₃ : FVec Ideal S512x64 .f32)

/-- The images with their pixels in one line. -/
def images : FVec Ideal S32x512x3136 .f32 := shapeCast _ A₀ shapeCasts_S32x512x56x56_S32x512x3136

/-- The scores. -/
def scores : FVec Ideal S32x64x3136 .f32 :=
  addf (transpose S32x64x3136 [0, 2, 1] (Host.dotGeneral dot_S32x512x3136_S64x512_S32x3136x64_1_1_02_0_n_n none (images A₀) A₁)
      transposes_S32x3136x64_S32x64x3136_0_2_1)
    (broadcastInDim S32x64x3136 ![0, 1, 2] bcast_S1x64x1_S32x64x3136_0_1_2 (broadcastInDim S1x64x1 ![1] bcast_S64_S1x64x1_1 A₂))

/-- The largest score of each vector. -/
def largest : FVec Ideal S32x3136 .f32 :=
  maximumf (broadcastInDim S32x3136 ![] bcast_S_S32x3136 (constant S_ .f32 0xFF800000#32))
    (Host.reduce FloatOps.maximumf (scores A₀ A₁ A₂) (constant S_ .f32 0xFF800000#32) reducesTo_S32x64x3136_S32x3136_d1 h_S_)

/-- The scores, each vector's largest subtracted. -/
def lowered : FVec Ideal S32x64x3136 .f32 :=
  subf (scores A₀ A₁ A₂) (broadcastInDim S32x64x3136 ![0, 1, 2] bcast_S32x1x3136_S32x64x3136_0_1_2
    (broadcastInDim S32x1x3136 ![0, 2] bcast_S32x3136_S32x1x3136_0_2 (largest A₀ A₁ A₂)))

/-- The shares. -/
def shares : FVec Ideal S32x64x3136 .f32 :=
  Host.divf (Host.exp (lowered A₀ A₁ A₂)) (broadcastInDim S32x64x3136 ![0, 1, 2] bcast_S32x1x3136_S32x64x3136_0_1_2
    (broadcastInDim S32x1x3136 ![0, 2] bcast_S32x3136_S32x1x3136_0_2
      (Host.reduceAdd (Host.exp (lowered A₀ A₁ A₂)) (constant S_ .f32 0x00000000#32) reducesTo_S32x64x3136_S32x3136_d1 h_S_)))

/-- The pooled residuals. -/
def residuals : FVec Ideal S32x512x64 .f32 :=
  subf (Host.dotGeneral dot_S32x512x3136_S32x64x3136_S32x512x64_2_2_1_1_0_0 none (images A₀) (shares A₀ A₁ A₂))
    (mulf (broadcastInDim S32x512x64 ![0, 1, 2] bcast_S1x512x64_S32x512x64_0_1_2
        (broadcastInDim S1x512x64 ![1, 2] bcast_S512x64_S1x512x64_1_2 A₃))
      (broadcastInDim S32x512x64 ![0, 1, 2] bcast_S32x1x64_S32x512x64_0_1_2
        (broadcastInDim S32x1x64 ![0, 2] bcast_S32x64_S32x1x64_0_2
          (Host.reduceAdd (shares A₀ A₁ A₂) (constant S_ .f32 0x00000000#32) reducesTo_S32x64x3136_S32x64_d2 h_S_))))

variable (R : FVec Ideal S32x512x64 .f32)

/-- The sums of the squares of the columns. -/
def colSums : FVec Ideal S32x64 .f32 :=
  Host.reduceAdd (mulf R R) (constant S_ .f32 0x00000000#32) reducesTo_S32x512x64_S32x64_d1 h_S_

/-- The columns divided by their lengths, each image's matrix in one line. -/
def line : FVec Ideal S32x32768 .f32 :=
  shapeCast _ (Host.divf R (broadcastInDim S32x512x64 ![0, 1, 2] bcast_S32x1x64_S32x512x64_0_1_2
    (Host.sqrt (broadcastInDim S32x1x64 ![0, 2] bcast_S32x64_S32x1x64_0_2 (colSums R))))) shapeCasts_S32x512x64_S32x32768

/-- The lines divided by their lengths. -/
def finished : FVec Ideal S32x32768 .f32 :=
  Host.divf (line R) (broadcastInDim S32x32768 ![0, 1] bcast_S32x1_S32x32768_0_1
    (Host.sqrt (broadcastInDim S32x1 ![0] bcast_S32_S32x1_0
      (Host.reduceAdd (mulf (line R) (line R)) (constant S_ .f32 0x00000000#32) reducesTo_S32x32768_S32_d1 h_S_))))

end Steps

/-- The reference's result is those steps. -/
theorem result_steps (m : (ℓ : Loc nD τ sig) → Buf (Elt Ideal) ℓ) (c : Dev nD) :
    Value.res_main_v31 m c = finished (residuals (m ((c : Thread nD τ).loc main_arg0)) (m ((c : Thread nD τ).loc main_arg1))
      (m ((c : Thread nD τ).loc main_arg2)) (m ((c : Thread nD τ).loc main_arg3))) := rfl

/-! ## The shares and the residuals -/

/-- The largest of real numbers, starting from minus infinity, is a real number. -/
theorem largest_real (f : Fin 64 → ℝ) : ∃ a : ℝ, max (⊥ : EReal) (Finset.univ.fold max ⊥ fun k => (f k : EReal)) = a := by
  refine ⟨(Finset.univ.fold max ⊥ fun k => (f k : EReal)).toReal, ?_⟩
  rw [max_eq_right bot_le, EReal.coe_toReal]
  · exact ((Finset.fold_max_lt _).2 ⟨bot_lt_top, fun k _ => EReal.coe_lt_top _⟩).ne
  · exact ((Finset.lt_fold_max (f := fun k => (f k : EReal)) _).2 (Or.inr ⟨0, Finset.mem_univ _, EReal.bot_lt_coe _⟩)).ne'

/-- The word of minus infinity. -/
theorem minus_infinity : Ideal.ofBits .f32 0xFF800000#32 = ⊥ := by simp [Ideal.ofBits, Ideal.ieee]

/-- The maximum over the clusters, at one vector, of any array. -/
theorem fold_at (L : FVec Ideal S32x64x3136 .f32) (i : Fin 32) (n : Fin 3136) :
    Host.reduce FloatOps.maximumf L (constant S_ .f32 0xFF800000#32) reducesTo_S32x64x3136_S32x3136_d1 h_S_ (ix2 i n)
      = Finset.univ.fold max (Ideal.ofBits .f32 0xFF800000#32) fun k => L (ix3 i k n) := by
  pointwise []

/-- The maximum with minus infinity, at one vector, of any array. -/
theorem maximum_at (M : FVec Ideal S32x3136 .f32) (i : Fin 32) (n : Fin 3136) :
    maximumf (broadcastInDim S32x3136 ![] bcast_S_S32x3136 (constant S_ .f32 0xFF800000#32)) M (ix2 i n)
      = max (Ideal.ofBits .f32 0xFF800000#32) (M (ix2 i n)) := by
  pointwise []

section Values

variable {A₀ : FVec Ideal S32x512x56x56 .f32} {A₁ : FVec Ideal S64x512 .f32} {A₂ : FVec Ideal S64 .f32}
  {A₃ : FVec Ideal S512x64 .f32} {x : Fin 32 → Fin 512 → Fin 3136 → ℝ} {w : Fin 64 → Fin 512 → ℝ} {b : Fin 64 → ℝ}
  {ce : Fin 512 → Fin 64 → ℝ} (h : Holds x w b ce A₀ A₁ A₂ A₃)

include h

/-- The scores are the real scores. -/
theorem scores_at (i : Fin 32) (k : Fin 64) (n : Fin 3136) :
    scores A₀ A₁ A₂ (ix3 i k n) = (score w b (fun d => x i d n) k : EReal) := by
  pointwise [scores, images]
  simp only [h.images, h.weights, h.biases, ← EReal.coe_mul, coe_sum, ← EReal.coe_add]
  rfl

/-- The largest score, as a fold over the real scores. -/
theorem largest_at (i : Fin 32) (n : Fin 3136) : largest A₀ A₁ A₂ (ix2 i n)
    = max (Ideal.ofBits .f32 0xFF800000#32) (Finset.univ.fold max (Ideal.ofBits .f32 0xFF800000#32)
        fun k => (score w b (fun d => x i d n) k : EReal)) := by
  have e : (fun k => scores A₀ A₁ A₂ (ix3 i k n)) = fun k => (score w b (fun d => x i d n) k : EReal) :=
    funext fun k => scores_at h i k n
  rw [← e]
  unfold largest
  rw [maximum_at, fold_at]

/-- The lowered scores are the real scores less a real number of each vector. -/
theorem lowered_at : ∃ a : Fin 32 → Fin 3136 → ℝ, ∀ i k n,
    lowered A₀ A₁ A₂ (ix3 i k n) = ((score w b (fun d => x i d n) k - a i n : ℝ) : EReal) := by
  choose a ha using fun i n => largest_real (score w b (fun d => x i d n))
  refine ⟨a, fun i k n => ?_⟩
  have e : largest A₀ A₁ A₂ (ix2 i n) = (a i n : EReal) := by
    rw [largest_at h, minus_infinity, ha]
  pointwise [lowered, scores_at h]
  rw [e, ← EReal.coe_sub]

/-- The shares are the real shares: lowering the scores changes nothing. -/
theorem shares_at (i : Fin 32) (k : Fin 64) (n : Fin 3136) :
    shares A₀ A₁ A₂ (ix3 i k n) = (share w b (fun d => x i d n) k : EReal) := by
  obtain ⟨a, ha⟩ := lowered_at h
  pointwise [shares, ha]
  simp only [exp_real, coe_sum]
  rw [div_real _ _ (sum_exp_pos _).ne', share_shift]

/-- The pooled residuals are the real ones. -/
theorem residuals_at (i : Fin 32) (d : Fin 512) (k : Fin 64) :
    residuals A₀ A₁ A₂ A₃ (ix3 i d k) = (pooled w b ce (x i) d k : EReal) := by
  pointwise [residuals, images, shares_at h]
  simp only [h.images, h.centres, ← EReal.coe_mul, coe_sum, ← EReal.coe_sub]
  rfl

end Values

/-! ## The normalisations -/

/-- Position `q` of an image's line is row `q / 64`, column `q % 64` of its matrix. -/
theorem lineRow (q : Fin 32768) : (q : ℕ) / 64 < 512 := by omega
/-- Its column is below 64. -/
theorem lineCol (q : Fin 32768) : (q : ℕ) % 64 < 64 := by omega

/-- A sum along the line is a sum over rows and columns. -/
theorem sum_line (f : Fin 512 → Fin 64 → ℝ) :
    ∑ q : Fin 32768, f ⟨q / 64, lineRow q⟩ ⟨q % 64, lineCol q⟩ = ∑ d, ∑ k, f d k := by
  rw [Fin.sum_univ_tiles 512 64 rfl]
  refine Finset.sum_congr rfl fun d _ => Finset.sum_congr rfl fun k _ => ?_
  congr 1 <;> (ext; simp <;> omega)

section Norms

variable {R : FVec Ideal S32x512x64 .f32} {r : Fin 32 → Fin 512 → Fin 64 → ℝ}
  (hR : ∀ i d k, R (ix3 i d k) = (r i d k : EReal))

include hR

/-- Over real residuals the sums of squares are real. -/
theorem colSums_at (i : Fin 32) (k : Fin 64) : colSums R (ix2 i k) = (colSq (r i) k : EReal) := by
  pointwise [colSums]
  simp only [hR, ← EReal.coe_mul, coe_sum]
  rfl

variable (hpos : ∀ i k, 0 < colSq (r i) k)

include hpos

/-- Over real residuals without a zero column the first division gives the unit columns. -/
theorem line_at (i : Fin 32) (q : Fin 32768) :
    line R (ix2 i q) = (unitCols (r i) ⟨q / 64, lineRow q⟩ ⟨q % 64, lineCol q⟩ : EReal) := by
  pointwise [line]
  simp only [hR, colSums_at hR, sqrt_real _ (hpos _ _).le]
  rw [div_real _ _ (Real.sqrt_pos.2 (hpos _ _)).ne', div_eq_mul_inv]
  rfl

/-- Over real residuals without a zero column the second division gives the normalised matrix. -/
theorem finished_at (i : Fin 32) (q : Fin 32768) :
    finished R (ix2 i q) = (normalised (r i) ⟨q / 64, lineRow q⟩ ⟨q % 64, lineCol q⟩ : EReal) := by
  have hall := allSq_unitCols_pos (r i) (hpos i)
  pointwise [finished]
  simp only [line_at hR hpos, ← EReal.coe_mul, coe_sum]
  rw [sum_line (fun d k => unitCols (r i) d k * unitCols (r i) d k)]
  refine (congrArg _ (sqrt_real _ hall.le)).trans ?_
  rw [div_real _ _ (Real.sqrt_pos.2 hall).ne', div_eq_mul_inv]
  rfl

end Norms

end Cert.ReferenceIdeal.Pooling

end
-- ==== Proof.Precondition.lean ====
/- What the precondition says: the arguments are real arrays, and no column of the pooled residuals is zero. -/
module

public import proofs.«01_k».proof.Proof.Reference
public import proofs.«01_k».proof.Pre_finite_and_no_zero_column

@[expose] public section

set_option maxRecDepth 16384

noncomputable section

namespace Cert.ReferenceIdeal.Pooling

open Idealize.ShloMosaic Idealize.ShloMosaic.TcCoe Idealize.SL.Sem
open Cert.ReferenceIdeal Cert.ReferenceIdeal.Gen Cert.Vlad

/-- The side conditions that the predicate states: all decided. -/
instance pre_facts : Cert.Pre_finite_and_no_zero_column.Facts := by constructor <;> decide

/-- The word of plus infinity. -/
theorem infinity : Ideal.ofBits .f32 0x7F800000#32 = ⊤ := by simp [Ideal.ofBits, Ideal.ieee]

/-- The one-bit word of a decided statement is one only if the statement holds. -/
theorem holds_of_bit (P : Prop) [Decidable P] (h : BitVec.ofBool (decide P) = 1#1) : P := by
  by_contra n
  rw [decide_eq_false n] at h
  exact absurd h (by decide)

/-- An extended real whose absolute value is below infinity is a real number. -/
theorem real_of_abs (a : EReal) (h : max a (-a) < ⊤) : a = (a.toReal : EReal) := by
  refine (EReal.coe_toReal (fun e => ?_) fun e => ?_).symm <;> simp [e] at h

/-- An array whose absolute values all compare below infinity holds real numbers. -/
theorem real_of_compare {s : Shape} (A : FVec Ideal s .f32) (j : s.Idx)
    (h : cmpf .olt (Host.absf A) (fun _ => Ideal.ofBits .f32 0x7F800000#32) j = 1#1) : A j = ((A j).toReal : EReal) := by
  refine real_of_abs _ ?_
  rw [← infinity]
  exact holds_of_bit _ h

/-- A column's sum of squares isn't negative. -/
theorem colSq_nonneg (r : Fin 512 → Fin 64 → ℝ) (k : Fin 64) : 0 ≤ colSq r k :=
  Finset.sum_nonneg fun _ _ => mul_self_nonneg _

variable {A₀ : FVec Ideal S32x512x56x56 .f32} {A₁ : FVec Ideal S64x512 .f32} {A₂ : FVec Ideal S64 .f32}
  {A₃ : FVec Ideal S512x64 .f32}

open Cert.Pre_finite_and_no_zero_column in
/-- Under the precondition the arguments hold real arrays whose pooled residuals have no zero column. -/
theorem real_arguments (h₀ : (fn (F := Ideal) A₀ A₁ A₂ A₃).1 = fun _ => 1#1)
    (h₁ : (fn (F := Ideal) A₀ A₁ A₂ A₃).2.1 = fun _ => 1#1) (h₂ : (fn (F := Ideal) A₀ A₁ A₂ A₃).2.2.1 = fun _ => 1#1)
    (h₃ : (fn (F := Ideal) A₀ A₁ A₂ A₃).2.2.2.1 = fun _ => 1#1)
    (h₄ : (fn (F := Ideal) A₀ A₁ A₂ A₃).2.2.2.2 = fun _ => 1#1) :
    ∃ x w b ce, Holds x w b ce A₀ A₁ A₂ A₃ ∧ ∀ i k, 0 < colSq (pooled w b ce (x i)) k := by
  have h : Holds (fun i d n => (A₀ (ix4 i d ⟨(n : ℕ) / 56, row n⟩ ⟨(n : ℕ) % 56, col n⟩)).toReal)
      (fun k d => (A₁ (ix2 k d)).toReal) (fun k => (A₂ (ix1 k)).toReal) (fun d k => (A₃ (ix2 d k)).toReal) A₀ A₁ A₂ A₃ :=
    ⟨fun i d n => real_of_compare A₀ _ (congrFun h₀ _), fun k d => real_of_compare A₁ _ (congrFun h₁ _),
      fun k => real_of_compare A₂ _ (congrFun h₂ _), fun d k => real_of_compare A₃ _ (congrFun h₃ _)⟩
  refine ⟨_, _, _, _, h, fun i k => ?_⟩
  have e : cmpf .ogt (Host.sqrt (colSums (residuals A₀ A₁ A₂ A₃))) (fun _ => Ideal.ofBits .f32 0x00000000#32) (ix2 i k) = 1#1 :=
    congrFun h₄ (ix2 i k)
  pointwise [colSums_at (residuals_at h)] at e
  have p := holds_of_bit _ e
  rw [sqrt_real _ (colSq_nonneg _ k)] at p
  exact Real.sqrt_pos.1 (EReal.coe_pos.1 p)

end Cert.ReferenceIdeal.Pooling

end
-- ==== Proof.Equation.lean ====
/- The equation: from the same arguments the kernel's result and the reference's are equal at every index. -/
module

public import proofs.«01_k».proof.Proof.KernelRun
public import proofs.«01_k».proof.Proof.Precondition

@[expose] public section

set_option maxRecDepth 16384

noncomputable section

namespace Cert.Vlad

open Idealize.ShloMosaic Idealize.ShloMosaic.TcCoe Idealize.SL.Sem

variable {x : Fin 32 → Fin 512 → Fin 3136 → ℝ} {w : Fin 64 → Fin 512 → ℝ} {b : Fin 64 → ℝ} {ce : Fin 512 → Fin 64 → ℝ}
  {A₀ : FVec Ideal ⟨4, ![32, 512, 56, 56]⟩ .f32} {A₁ : FVec Ideal ⟨2, ![64, 512]⟩ .f32} {A₂ : FVec Ideal ⟨1, ![64]⟩ .f32}
  {A₃ : FVec Ideal ⟨2, ![512, 64]⟩ .f32}

/-- Each image's normalised matrix in one line is what the reference returns. -/
theorem lines_eq (h : Holds x w b ce A₀ A₁ A₂ A₃) (hpos : ∀ i k, 0 < colSq (pooled w b ce (x i)) k) :
    shapeCast (⟨2, ![32, 32768]⟩ : Shape) (result x w b ce) Cert.KernelIdeal.Gen.shapeCasts_S32x512x64_S32x32768
      = Cert.ReferenceIdeal.Pooling.finished (Cert.ReferenceIdeal.Pooling.residuals A₀ A₁ A₂ A₃) := by
  funext j
  idx_vars j
  rw [Cert.ReferenceIdeal.Pooling.finished_at (Cert.ReferenceIdeal.Pooling.residuals_at h) hpos]
  pointwise [result]

open Cert.KernelIdeal in
/-- Under the precondition the two results are equal. -/
theorem results_eq (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0)
        = m ((c.tc : Thread nD τ).loc main_arg0)
      ∧ m' ((c.tc : Thread Cert.ReferenceIdeal.nD Cert.ReferenceIdeal.τ).loc Cert.ReferenceIdeal.main_arg1)
        = m ((c.tc : Thread nD τ).loc main_arg1)
      ∧ m' ((c.tc : Thread Cert.ReferenceIdeal.nD Cert.ReferenceIdeal.τ).loc Cert.ReferenceIdeal.main_arg2)
        = m ((c.tc : Thread nD τ).loc main_arg2)
      ∧ m' ((c.tc : Thread Cert.ReferenceIdeal.nD Cert.ReferenceIdeal.τ).loc Cert.ReferenceIdeal.main_arg3)
        = m ((c.tc : Thread nD τ).loc main_arg3))
    (hArgs : ∃ x w b ce, Holds x w b ce (m ((c.tc : Thread nD τ).loc main_arg0)) (m ((c.tc : Thread nD τ).loc main_arg1))
      (m ((c.tc : Thread nD τ).loc main_arg2)) (m ((c.tc : Thread nD τ).loc main_arg3))
      ∧ ∀ i k, 0 < colSq (pooled w b ce (x i)) k) :
    Cert.ReferenceIdeal.Value.res_main_v31 m' c = Block.lines m c := by
  obtain ⟨x, w, b, ce, h, hpos⟩ := hArgs
  rw [Cert.ReferenceIdeal.Pooling.result_steps, hagree.1, hagree.2.1, hagree.2.2.1, hagree.2.2.2, Block.lines,
    Block.final m c h hpos]
  exact (lines_eq h hpos).symm

end Cert.Vlad

end
-- ==== Proof.lean ====
/- The claims of the NetVLAD pooling kernel: it and the reference run and leave their arguments alone, the kernel over the
   reals is the kernel with its casts dropped, and under the precondition it returns what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import Idealize.ShloMosaic.Lib.Quiescent
public import proofs.«01_k».proof.Proof.Equation

@[expose] public section

set_option maxRecDepth 16384

noncomputable section

namespace Cert.Proof

open Idealize.ShloMosaic Idealize.ShloMosaic.TcCoe Idealize.SL.Sem

/-- The reference runs with its arguments unchanged and, having no semaphores, with every counter at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel over the reals returns what the reference returns. -/
theorem kernel_eq_reference : Cert.algebraic_KernelIdeal_ReferenceIdeal_pre_finite_and_no_zero_column := by
  intro m g m' g' hpre hagree
  refine ⟨Cert.KernelIdeal.Block.lines m, Cert.KernelIdeal.Block.run m g, ?_⟩
  refine (θ_run Cert.ReferenceIdeal.defs _ _).mono (fun r h c => ⟨(h c).1.trans ?_, (h c).2⟩)
    (Cert.ReferenceIdeal.Value.run (F := Ideal) m' g')
  obtain ⟨h₀, h₁, h₂, h₃, h₄⟩ := hpre c
  exact Cert.Vlad.results_eq m c m' (hagree c) (Cert.ReferenceIdeal.Pooling.real_arguments h₀ h₁ h₂ h₃ h₄)

/-- The five claims, the frames of the two programs over the reals also under the precondition. -/
theorem claim : Cert.Claim :=
  ⟨Cert.Kernel.Gen.facts, Cert.KernelIdeal.Gen.facts, Cert.ReferenceIdeal.Gen.facts, Cert.ReferenceIdeal.Pooling.pre_facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    kernel_eq_reference⟩

end Cert.Proof

end
